-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x768x16x16 : Shape := ⟨4, ![256, 768, 16, 16]⟩
abbrev S8192x768 : Shape := ⟨2, ![8192, 768]⟩
abbrev S256x16x16x768 : Shape := ⟨4, ![256, 16, 16, 768]⟩
abbrev S256x256x768 : Shape := ⟨3, ![256, 256, 768]⟩
abbrev S_ : Shape := ⟨0, ![]⟩
abbrev S8192 : Shape := ⟨1, ![8192]⟩
abbrev S1x8192 : Shape := ⟨2, ![1, 8192]⟩
abbrev S8x256x768 : Shape := ⟨3, ![8, 256, 768]⟩
abbrev S8x768 : Shape := ⟨2, ![8, 768]⟩
abbrev S8 : Shape := ⟨1, ![8]⟩
abbrev S8x1 : Shape := ⟨2, ![8, 1]⟩
abbrev S4096x768 : Shape := ⟨2, ![4096, 768]⟩
abbrev S8x4096 : Shape := ⟨2, ![8, 4096]⟩
abbrev S1x4096 : Shape := ⟨2, ![1, 4096]⟩
abbrev S8x1x768 : Shape := ⟨3, ![8, 1, 768]⟩

abbrev nBuf : Space → Nat
  | .hbm => 12
  | .vmem => 6
  | .smem => 0
  | _ => 0

abbrev bufTy : (tb : Table) → Fin (tcTables nBuf tb) → BufTy
  | .hbm, ⟨0, _⟩ => ⟨S256x768x16x16, .f32⟩
  | .hbm, ⟨1, _⟩ => ⟨S8192x768, .f32⟩
  | .hbm, ⟨2, _⟩ => ⟨S256x16x16x768, .f32⟩
  | .hbm, ⟨3, _⟩ => ⟨S256x256x768, .f32⟩
  | .hbm, ⟨4, _⟩ => ⟨S8192x768, .bf16⟩
  | .hbm, ⟨5, _⟩ => ⟨S8192x768, .f32⟩
  | .hbm, ⟨6, _⟩ => ⟨S_, .f32⟩
  | .hbm, ⟨7, _⟩ => ⟨S8192, .f32⟩
  | .hbm, ⟨8, _⟩ => ⟨S1x8192, .f32⟩
  | .hbm, ⟨9, _⟩ => ⟨S256x256x768, .f32⟩
  | .hbm, ⟨10, _⟩ => ⟨S256x16x16x768, .f32⟩
  | .hbm, ⟨11, _⟩ => ⟨S256x768x16x16, .f32⟩
  | .local _ .vmem, ⟨0, _⟩ => ⟨S8x256x768, .f32⟩
  | .local _ .vmem, ⟨1, _⟩ => ⟨S8x256x768, .f32⟩
  | .local _ .vmem, ⟨2, _⟩ => ⟨S8192x768, .bf16⟩
  | .local _ .vmem, ⟨3, _⟩ => ⟨S1x8192, .f32⟩
  | .local _ .vmem, ⟨4, _⟩ => ⟨S8x256x768, .f32⟩
  | .local _ .vmem, ⟨5, _⟩ => ⟨S8x256x768, .f32⟩
  | _, _ => ⟨S256x768x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x768x16x16 : Shape := ⟨4, ![256, 768, 16, 16]⟩
abbrev S8192x768 : Shape := ⟨2, ![8192, 768]⟩
abbrev S256x768x256 : Shape := ⟨3, ![256, 768, 256]⟩
abbrev S_ : Shape := ⟨0, ![]⟩
abbrev S256x768 : Shape := ⟨2, ![256, 768]⟩
abbrev S256 : Shape := ⟨1, ![256]⟩
abbrev S256x1 : Shape := ⟨2, ![256, 1]⟩
abbrev S8192 : Shape := ⟨1, ![8192]⟩
abbrev S1x8192 : Shape := ⟨2, ![1, 8192]⟩
abbrev S256x8192 : Shape := ⟨2, ![256, 8192]⟩
abbrev S768x8192 : Shape := ⟨2, ![768, 8192]⟩
abbrev S1 : Shape := ⟨1, ![1]⟩
abbrev S1x1 : Shape := ⟨2, ![1, 1]⟩
abbrev S256x768x1x1 : Shape := ⟨4, ![256, 768, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S256x768x16x16, .f32⟩
  | .hbm, ⟨1, _⟩ => ⟨S8192x768, .f32⟩
  | .hbm, ⟨2, _⟩ => ⟨S256x768x256, .f32⟩
  | .hbm, ⟨3, _⟩ => ⟨S_, .f32⟩
  | .hbm, ⟨4, _⟩ => ⟨S256x768, .f32⟩
  | .hbm, ⟨5, _⟩ => ⟨S_, .f32⟩
  | .hbm, ⟨6, _⟩ => ⟨S256x768, .f32⟩
  | .hbm, ⟨7, _⟩ => ⟨S256x768, .f32⟩
  | .hbm, ⟨8, _⟩ => ⟨S256x768, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S8192x768, .f32⟩
  | .hbm, ⟨13, _⟩ => ⟨S_, .f32⟩
  | .hbm, ⟨14, _⟩ => ⟨S8192, .f32⟩
  | .hbm, ⟨15, _⟩ => ⟨S1x8192, .f32⟩
  | .hbm, ⟨16, _⟩ => ⟨S256x8192, .f32⟩
  | .hbm, ⟨17, _⟩ => ⟨S256x8192, .f32⟩
  | .hbm, ⟨18, _⟩ => ⟨S256x8192, .f32⟩
  | .hbm, ⟨19, _⟩ => ⟨S768x8192, .f32⟩
  | .hbm, ⟨20, _⟩ => ⟨S256x8192, .f32⟩
  | .hbm, ⟨21, _⟩ => ⟨S_, .f32⟩
  | .hbm, ⟨22, _⟩ => ⟨S256x8192, .f32⟩
  | .hbm, ⟨23, _⟩ => ⟨S256x8192, .f32⟩
  | .hbm, ⟨24, _⟩ => ⟨S256x8192, .f32⟩
  | .hbm, ⟨25, _⟩ => ⟨S_, .f32⟩
  | .hbm, ⟨26, _⟩ => ⟨S256x8192, .f32⟩
  | .hbm, ⟨27, _⟩ => ⟨S256x8192, .f32⟩
  | .hbm, ⟨28, _⟩ => ⟨S256x8192, .f32⟩
  | .hbm, ⟨29, _⟩ => ⟨S256x8192, .i32⟩
  | .hbm, ⟨30, _⟩ => ⟨S_, .f32⟩
  | .hbm, ⟨31, _⟩ => ⟨S_, .i32⟩
  | .hbm, ⟨32, _⟩ => ⟨S256, .f32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S1x1, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i1⟩
  | .hbm, ⟨51, _⟩ => ⟨S256, .i1⟩
  | .hbm, ⟨52, _⟩ => ⟨S256x768, .f32⟩
  | .hbm, ⟨53, _⟩ => ⟨S256x768, .i1⟩
  | .hbm, ⟨54, _⟩ => ⟨S_, .f32⟩
  | .hbm, ⟨55, _⟩ => ⟨S256x768, .f32⟩
  | .hbm, ⟨56, _⟩ => ⟨S256x768, .f32⟩
  | .hbm, ⟨57, _⟩ => ⟨S256x768, .f32⟩
  | .hbm, ⟨58, _⟩ => ⟨S_, .f32⟩
  | .hbm, ⟨59, _⟩ => ⟨S256x768, .f32⟩
  | .hbm, ⟨60, _⟩ => ⟨S256x768, .f32⟩
  | .hbm, ⟨61, _⟩ => ⟨S256x768x1x1, .f32⟩
  | .hbm, ⟨62, _⟩ => ⟨S256x768x16x16, .f32⟩
  | .hbm, ⟨63, _⟩ => ⟨S256x768x16x16, .f32⟩
  | _, _ => ⟨S256x768x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v21 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩

abbrev nD : Nat := 1
abbrev τ : Topo := Topo.v7x

variable {F : FTy → Type} [FloatOps F]
-- ==== Proof.Nearest.lean ====
/-
  The pure mathematics of a nearest prototype, apart from both programs: the first index at which a list of
  8192 extended reals is least, and three ways to arrive at it.

    `IsFirstMin f i`: `f i` is least, and every earlier entry is strictly greater. There is exactly one such `i`
      (`exists_firstMin`, `IsFirstMin.unique`).
    `IsFirstMin.of_sqrt`: the square root, on entries that are not negative, does not move it.
    `word_firstMin`: the least of the index words kept where an entry is at most the minimum, over two halves of
      the list, is the word of that index.
    `oneHot_sum`: the sum of rows weighted by the comparison of each index word with that word is that index's row.
    `fold_firstMin`: a left fold that keeps the lexicographically smaller (value, index) pair, from the pair of
      the greatest value and index 0, ends at that index.
-/
module

public import Idealize.ShloMosaic.PureOps.Ideal.Laws
public import Mathlib.Data.Finset.Max
public import Mathlib.Data.Finset.Fold
public import Idealize.ShloMosaic.Lib.Pointwise

@[expose] public section

set_option maxRecDepth 16384

noncomputable section

open Idealize.ShloMosaic

namespace Cert.Nearest

/-- `i` is the first index at which `f` is least. -/
def IsFirstMin {n : Nat} (f : Fin n → EReal) (i : Fin n) : Prop :=
  (∀ k, f i ≤ f k) ∧ ∀ k, k < i → f i < f k

/-- A nonempty list has a first least index. -/
theorem exists_firstMin {n : Nat} (hn : 0 < n) (f : Fin n → EReal) : ∃ i, IsFirstMin f i := by
  haveI : Nonempty (Fin n) := ⟨⟨0, hn⟩⟩
  obtain ⟨m, hm⟩ := Finite.exists_min f
  let S : Finset (Fin n) := Finset.univ.filter fun k => f k ≤ f m
  have hS : S.Nonempty := ⟨m, Finset.mem_filter.mpr ⟨Finset.mem_univ _, le_refl _⟩⟩
  refine ⟨S.min' hS, fun k => ?_, fun k hk => ?_⟩
  · exact ((Finset.mem_filter.mp (S.min'_mem hS)).2).trans (hm k)
  · by_contra hc
    have hk' : k ∈ S := Finset.mem_filter.mpr
      ⟨Finset.mem_univ _, (not_lt.mp hc).trans (Finset.mem_filter.mp (S.min'_mem hS)).2⟩
    exact absurd (S.min'_le k hk') (not_le.mpr hk)

/-- and only one. -/
theorem IsFirstMin.unique {n : Nat} {f : Fin n → EReal} {i j : Fin n} (hi : IsFirstMin f i) (hj : IsFirstMin f j) :
    i = j := by
  rcases lt_trichotomy i j with h | h | h
  · exact absurd (hj.2 i h) (not_lt.mpr (hi.1 j))
  · exact h
  · exact absurd (hi.2 j h) (not_lt.mpr (hj.1 i))

/-! ### The square root -/

/-- Of an extended real that is not negative, the square root keeps the strict order. -/
theorem sqrt_lt_sqrt {x y : EReal} (hx : 0 ≤ x) (h : x < y) : Ideal.sqrt x < Ideal.sqrt y := by
  induction x using EReal.rec with
  | bot => exact absurd hx (not_le.mpr EReal.bot_lt_zero)
  | top => exact absurd h (not_lt.mpr le_top)
  | coe r =>
    have hr : 0 ≤ r := EReal.coe_nonneg.mp hx
    rw [Ideal.sqrt_coe, if_neg (not_lt.mpr hr)]
    induction y using EReal.rec with
    | bot => exact absurd h not_lt_bot
    | top => exact EReal.coe_lt_top _
    | coe s =>
      have hrs : r < s := EReal.coe_lt_coe_iff.mp h
      rw [Ideal.sqrt_coe, if_neg (not_lt.mpr (hr.trans hrs.le))]
      exact EReal.coe_lt_coe_iff.mpr (Real.sqrt_lt_sqrt hr hrs)

/-- and reflects the order. -/
theorem le_of_sqrt_le {x y : EReal} (hy : 0 ≤ y) (h : Ideal.sqrt x ≤ Ideal.sqrt y) : x ≤ y := by
  by_contra hc
  exact absurd (sqrt_lt_sqrt hy (not_le.mp hc)) (not_lt.mpr h)

/-- The first least index of the square roots of entries that are not negative is that of the entries. -/
theorem IsFirstMin.of_sqrt {n : Nat} {f : Fin n → EReal} (h0 : ∀ k, 0 ≤ f k) {i : Fin n}
    (h : IsFirstMin (fun k => Ideal.sqrt (f k)) i) : IsFirstMin f i := by
  refine ⟨fun k => le_of_sqrt_le (h0 k) (h.1 k), fun k hk => ?_⟩
  refine lt_of_le_of_ne (le_of_sqrt_le (h0 k) (h.1 k)) fun e => ?_
  have h2 : Ideal.sqrt (f i) < Ideal.sqrt (f k) := h.2 k hk
  rw [e] at h2
  exact lt_irrefl _ h2

/-! ### The index word the two halves give -/

/-- The positive infinity both programs start a minimum from. -/
theorem ofBits_inf : Ideal.ofBits .f32 0x7F800000#32 = ⊤ := by
  simp [Ideal.ofBits, Ideal.ieee]

/-- The lesser of two words, read signed. -/
theorem toInt_minsi (x y : BitVec 32) : (IntOp.minsi x y).toInt = min x.toInt y.toInt := by
  unfold IntOp.minsi
  by_cases h : x.slt y = true
  · rw [if_pos h]
    have : x.toInt < y.toInt := by simpa [BitVec.slt] using h
    exact (min_eq_left this.le).symm
  · rw [if_neg h]
    have : ¬ x.toInt < y.toInt := by simpa [BitVec.slt] using h
    exact (min_eq_right (not_lt.mp this)).symm

/-- The least of a set of words, read signed. -/
theorem toInt_fold_minsi {ι : Type} (s : Finset ι) (b : BitVec 32) (g : ι → BitVec 32) :
    (s.fold IntOp.minsi b g).toInt = s.fold min b.toInt (fun k => (g k).toInt) :=
  (Finset.fold_hom (op := IntOp.minsi) (op' := min) (m := BitVec.toInt) toInt_minsi).symm

/-- The word of a number below `2 ^ 31`, read signed, is the number. -/
theorem toInt_ofNat {n : Nat} (h : n < 2147483648) : (BitVec.ofNat 32 n).toInt = (n : Int) := by
  rw [BitVec.toInt_ofNat']
  norm_num
  rw [Int.bmod_def]
  omega

/-- Words of numbers below `2 ^ 31` agree only when the numbers do. -/
theorem ofNat_eq_iff {a b : Nat} (ha : a < 2147483648) (hb : b < 2147483648) :
    BitVec.ofNat 32 a = BitVec.ofNat 32 b ↔ a = b := by
  refine ⟨fun h => ?_, fun h => by rw [h]⟩
  have e := congrArg BitVec.toInt h
  rw [toInt_ofNat ha, toInt_ofNat hb] at e
  exact_mod_cast e

/-- A list of 8192 entries cut into two halves `u` and `v`; `M` the minimum of both; in either half the word of the
    index is kept where the entry is at most `M` and replaced by the word of 8192 elsewhere. The least of these words
    is the word of the first least index of the whole list. -/
theorem word_firstMin (f : Fin 8192 → EReal) (u v : Fin 4096 → EReal)
    (hu : ∀ k : Fin 4096, u k = f ⟨k.val, by omega⟩) (hv : ∀ k : Fin 4096, v k = f ⟨4096 + k.val, by omega⟩)
    (i : Fin 8192) (hi : IsFirstMin f i) :
    IntOp.minsi
      (Finset.univ.fold IntOp.minsi 2147483647#32 fun k : Fin 4096 =>
        if u k ≤ min (Finset.univ.fold min (Ideal.ofBits .f32 0x7F800000#32) fun k => u k)
            (Finset.univ.fold min (Ideal.ofBits .f32 0x7F800000#32) fun k => v k)
        then IntOp.addi (BitVec.ofNat 32 k.val) 0#32 else 8192#32)
      (Finset.univ.fold IntOp.minsi 2147483647#32 fun k : Fin 4096 =>
        if v k ≤ min (Finset.univ.fold min (Ideal.ofBits .f32 0x7F800000#32) fun k => u k)
            (Finset.univ.fold min (Ideal.ofBits .f32 0x7F800000#32) fun k => v k)
        then IntOp.addi (BitVec.ofNat 32 k.val) 4096#32 else 8192#32)
      = BitVec.ofNat 32 i.val := by
  have hM : min (Finset.univ.fold min (Ideal.ofBits .f32 0x7F800000#32) fun k => u k)
      (Finset.univ.fold min (Ideal.ofBits .f32 0x7F800000#32) fun k => v k) = f i := by
    rw [ofBits_inf]
    apply le_antisymm
    · by_cases h : i.val < 4096
      · refine (min_le_left _ _).trans ((Finset.fold_min_le _).mpr (.inr ⟨⟨i.val, h⟩, Finset.mem_univ _, ?_⟩))
        rw [hu]
      · refine (min_le_right _ _).trans
          ((Finset.fold_min_le _).mpr (.inr ⟨⟨i.val - 4096, by omega⟩, Finset.mem_univ _, ?_⟩))
        rw [hv]
        exact le_of_eq (congrArg f (Fin.ext (by show 4096 + (i.val - 4096) = i.val; omega)))
    · refine le_min ((Finset.le_fold_min _).mpr ⟨le_top, fun k _ => ?_⟩)
        ((Finset.le_fold_min _).mpr ⟨le_top, fun k _ => ?_⟩)
      · rw [hu]; exact hi.1 _
      · rw [hv]; exact hi.1 _
  rw [hM]
  have hlt (k : Fin 8192) : f k ≤ f i → i.val ≤ k.val := fun h => by
    by_contra hc
    exact absurd (hi.2 k (Fin.lt_def.mpr (not_le.mp hc))) (not_lt.mpr h)
  apply BitVec.eq_of_toInt_eq
  have ei : (BitVec.ofNat 32 i.val).toInt = (i.val : Int) := toInt_ofNat (by omega)
  rw [toInt_minsi, toInt_fold_minsi, toInt_fold_minsi, ei]
  have eu (k : Fin 4096) : (IntOp.addi (BitVec.ofNat 32 k.val) 0#32).toInt = (k.val : Int) := by
    unfold IntOp.addi
    rw [BitVec.add_zero, toInt_ofNat (by omega)]
  have ev (k : Fin 4096) : (IntOp.addi (BitVec.ofNat 32 k.val) 4096#32).toInt = ((4096 + k.val : Nat) : Int) := by
    unfold IntOp.addi
    rw [show (4096#32 : BitVec 32) = BitVec.ofNat 32 4096 from rfl, ← BitVec.ofNat_add, toInt_ofNat (by omega)]
    congr 1; omega
  have e8 : (8192#32 : BitVec 32).toInt = 8192 := by decide
  have eb : (2147483647#32 : BitVec 32).toInt = 2147483647 := by decide
  have hi' := i.isLt
  apply le_antisymm
  · by_cases h : i.val < 4096
    · refine (min_le_left _ _).trans ((Finset.fold_min_le _).mpr (.inr ⟨⟨i.val, h⟩, Finset.mem_univ _, ?_⟩))
      rw [if_pos (by rw [hu]), eu]
    · refine (min_le_right _ _).trans
        ((Finset.fold_min_le _).mpr (.inr ⟨⟨i.val - 4096, by omega⟩, Finset.mem_univ _, ?_⟩))
      have e : (⟨4096 + (i.val - 4096), by omega⟩ : Fin 8192) = i := Fin.ext (by show 4096 + (i.val - 4096) = i.val; omega)
      rw [if_pos (by rw [hv]; exact le_of_eq (congrArg f e)), ev]
      show ((4096 + (i.val - 4096) : Nat) : Int) ≤ _
      omega
  · refine le_min ((Finset.le_fold_min _).mpr ⟨by rw [eb]; omega, fun k _ => ?_⟩)
      ((Finset.le_fold_min _).mpr ⟨by rw [eb]; omega, fun k _ => ?_⟩)
    · by_cases h : u k ≤ f i
      · rw [if_pos h, eu]
        rw [hu] at h
        exact_mod_cast hlt _ h
      · rw [if_neg h, e8]; omega
    · by_cases h : v k ≤ f i
      · rw [if_pos h, ev]
        rw [hv] at h
        exact_mod_cast hlt _ h
      · rw [if_neg h, e8]; omega

/-! ### The row a one-hot weight selects -/

/-- The weight: 1 where the two words agree, 0 elsewhere. -/
theorem weight (a b : BitVec 32) :
    (FloatOps.sitofp .f32 (BitVec.setWidth 32 (IntOp.cmpi .eq a b)) : Ideal .f32) = if a = b then (1 : EReal) else 0 := by
  show (((BitVec.setWidth 32 (BitVec.ofBool (a == b))).toInt : ℝ) : EReal) = _
  by_cases h : a = b
  · rw [if_pos h, beq_iff_eq.mpr h]
    have : (BitVec.setWidth 32 (BitVec.ofBool true)).toInt = 1 := by decide
    rw [this]; simp
  · rw [if_neg h, beq_eq_false_iff_ne.mpr h]
    have : (BitVec.setWidth 32 (BitVec.ofBool false)).toInt = 0 := by decide
    rw [this]; simp

/-- The rows `A` and `B` of the two halves weighted by the comparison of each index word with the word of `i`, and
    summed: row `i` of the whole. -/
theorem oneHot_sum (w : Fin 8192 → EReal) (A B : Fin 4096 → EReal)
    (hA : ∀ k : Fin 4096, A k = w ⟨k.val, by omega⟩) (hB : ∀ k : Fin 4096, B k = w ⟨4096 + k.val, by omega⟩) (i : Fin 8192) :
    (∑ k : Fin 4096, (FloatOps.sitofp .f32 (BitVec.setWidth 32
        (IntOp.cmpi .eq (IntOp.addi (BitVec.ofNat 32 k.val) 0#32) (BitVec.ofNat 32 i.val))) : Ideal .f32) * A k)
      + (∑ k : Fin 4096, (FloatOps.sitofp .f32 (BitVec.setWidth 32
        (IntOp.cmpi .eq (IntOp.addi (BitVec.ofNat 32 k.val) 4096#32) (BitVec.ofNat 32 i.val))) : Ideal .f32) * B k)
      = w i := by
  have hi' := i.isLt
  have eu (k : Fin 4096) : IntOp.addi (BitVec.ofNat 32 k.val) 0#32 = BitVec.ofNat 32 i.val ↔ k.val = i.val := by
    unfold IntOp.addi
    rw [BitVec.add_zero, ofNat_eq_iff (by omega) (by omega)]
  have ev (k : Fin 4096) : IntOp.addi (BitVec.ofNat 32 k.val) 4096#32 = BitVec.ofNat 32 i.val ↔ k.val + 4096 = i.val := by
    unfold IntOp.addi
    rw [show (4096#32 : BitVec 32) = BitVec.ofNat 32 4096 from rfl, ← BitVec.ofNat_add,
      ofNat_eq_iff (by omega) (by omega)]
  simp only [weight, eu, ev, ite_mul, one_mul, zero_mul]
  by_cases h : i.val < 4096
  · rw [Finset.sum_eq_single (⟨i.val, h⟩ : Fin 4096) (fun k _ hk => if_neg fun e => hk (Fin.ext e))
      (fun hn => absurd (Finset.mem_univ _) hn), if_pos rfl, hA,
      Finset.sum_eq_zero (fun (k : Fin 4096) _ => if_neg (by omega)), add_zero]
  · rw [Finset.sum_eq_zero (fun (k : Fin 4096) _ => if_neg (by omega)), zero_add,
      Finset.sum_eq_single (⟨i.val - 4096, by omega⟩ : Fin 4096)
        (fun k _ hk => if_neg fun e => hk (Fin.ext (by show k.val = i.val - 4096; omega)))
        (fun hn => absurd (Finset.mem_univ _) hn), if_pos (by show i.val - 4096 + 4096 = i.val; omega), hB]
    exact congrArg w (Fin.ext (by show 4096 + (i.val - 4096) = i.val; omega))

/-! ### The fold that keeps the smaller pair -/

/-- Pair `p` comes no later than pair `q`: a smaller value, or the same value and an index word no greater. -/
def PairLe (p q : EReal × BitVec 32) : Prop := p.1 < q.1 ∨ p.1 = q.1 ∧ p.2.toInt ≤ q.2.toInt

theorem PairLe.refl (p : EReal × BitVec 32) : PairLe p p := .inr ⟨rfl, le_refl _⟩

theorem PairLe.trans {p q r : EReal × BitVec 32} (h₁ : PairLe p q) (h₂ : PairLe q r) : PairLe p r := by
  rcases h₁ with h₁ | ⟨h₁, h₁'⟩ <;> rcases h₂ with h₂ | ⟨h₂, h₂'⟩
  · exact .inl (h₁.trans h₂)
  · exact .inl (h₂ ▸ h₁)
  · exact .inl (h₁ ▸ h₂)
  · exact .inr ⟨h₁.trans h₂, h₁'.trans h₂'⟩

/-- A step that returns one of its two pairs, and one that comes no later than either, folded over a list, returns
    the initial pair or a member of the list, and one that comes no later than any of these. -/
theorem foldl_pair (r : EReal × BitVec 32 → EReal × BitVec 32 → EReal × BitVec 32)
    (hr : ∀ p q, (r p q = p ∨ r p q = q) ∧ PairLe (r p q) p ∧ PairLe (r p q) q)
    (L : List (EReal × BitVec 32)) (z : EReal × BitVec 32) :
    (L.foldl r z = z ∨ L.foldl r z ∈ L) ∧ PairLe (L.foldl r z) z ∧ ∀ q ∈ L, PairLe (L.foldl r z) q := by
  induction L generalizing z with
  | nil => exact ⟨.inl rfl, .refl z, fun q hq => absurd hq List.not_mem_nil⟩
  | cons a L ih =>
    obtain ⟨h1, h2, h3⟩ := ih (r z a)
    obtain ⟨g1, g2, g3⟩ := hr z a
    rw [List.foldl_cons]
    refine ⟨?_, h2.trans g2, fun q hq => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.mp hq with e | hq
      · rw [e]; exact h2.trans g3
      · exact h3 q hq

/-- Folded over a list whose members are the entries of `f` with their index words, from the greatest value and
    index 0, such a step's index is that of the first least entry. -/
theorem fold_firstMin (r : EReal × BitVec 32 → EReal × BitVec 32 → EReal × BitVec 32)
    (hr : ∀ p q, (r p q = p ∨ r p q = q) ∧ PairLe (r p q) p ∧ PairLe (r p q) q)
    (f : Fin 8192 → EReal) (L : List (EReal × BitVec 32))
    (hL : ∀ p, p ∈ L ↔ ∃ k : Fin 8192, p = (f k, BitVec.ofNat 32 k.val)) (i : Fin 8192) (hi : IsFirstMin f i) :
    (L.foldl r (⊤, 0#32)).2 = BitVec.ofNat 32 i.val := by
  obtain ⟨h1, h2, h3⟩ := foldl_pair r hr L (⊤, 0#32)
  generalize hp : L.foldl r (⊤, 0#32) = p at h1 h2 h3 ⊢
  have hi' := i.isLt
  have h4 := h3 _ ((hL _).mpr ⟨i, rfl⟩)
  have ei : (BitVec.ofNat 32 i.val).toInt = (i.val : Int) := toInt_ofNat (by omega)
  have e0 : (0#32 : BitVec 32).toInt = 0 := by decide
  apply BitVec.eq_of_toInt_eq
  rw [ei]
  rcases h1 with h1 | h1
  · rw [h1] at h4 ⊢
    rcases h4 with h4 | ⟨h4, h4'⟩
    · exact absurd h4 (not_lt.mpr le_top)
    · have hz : i.val = 0 := by
        by_contra hne
        have := hi.2 ⟨0, by omega⟩ (Fin.lt_def.mpr (Nat.pos_of_ne_zero hne))
        have h4 : (⊤ : EReal) = f i := h4
        rw [← h4] at this
        exact absurd this (not_lt.mpr le_top)
      show (0#32 : BitVec 32).toInt = _
      rw [e0, hz]; rfl
  · obtain ⟨k, rfl⟩ := (hL _).mp h1
    have ek : (BitVec.ofNat 32 k.val).toInt = (k.val : Int) := toInt_ofNat (by have := k.isLt; omega)
    show (BitVec.ofNat 32 k.val).toInt = _
    rcases h4 with h4 | ⟨h4, h4'⟩
    · exact absurd h4 (not_lt.mpr (hi.1 k))
    · have h4 : f k = f i := h4
      have h4' : (BitVec.ofNat 32 k.val).toInt ≤ (BitVec.ofNat 32 i.val).toInt := h4'
      rw [ek, ei] at h4'
      have : i.val ≤ k.val := by
        by_contra hc
        exact absurd (hi.2 k (Fin.lt_def.mpr (not_le.mp hc))) (not_lt.mpr h4.le)
      rw [ek]; omega

end Cert.Nearest

end

end
-- ==== Proof.Spec.lean ====
/-
  What both programs compute, as functions of the two argument arrays: a batch of 256 feature maps of 768 channels on
  a 16 × 16 grid, and 8192 prototypes of 768 channels.

    `feat X b c`: the mean of channel `c` of map `b` over the grid.
    `sqDist g W N k`: the squared distance of a feature row `g` to row `k` of `W` in its expanded form
      `|g|² + N k − 2 ⟨g, W k⟩`, cut off below at zero.
    `near X P b`: the first prototype at the least distance from map `b`'s mean.
    `out X P`: every element of map `b` moved by half the difference of that prototype and the mean.
-/
module

public import Idealize.ShloMosaic.Lib.Pointwise
public import proofs.«01_k».proof.Proof.Nearest

@[expose] public section

set_option maxRecDepth 16384

noncomputable section

open Idealize.ShloMosaic

namespace Cert.Nearest

/-- The feature maps' shape, and the prototypes'. -/
abbrev SX : Shape := ⟨4, ![256, 768, 16, 16]⟩
abbrev SP : Shape := ⟨2, ![8192, 768]⟩

/-- The constants as both programs spell them: one over 256, two, and one half. -/
abbrev scale : EReal := Ideal.ofBits .f32 0x3B800000#32
abbrev two : EReal := Ideal.ofBits .f32 0x40000000#32
abbrev half : EReal := Ideal.ofBits .f32 0x3F000000#32

/-- The squared distance of row `g` to row `k` of `W`, whose squared lengths are `N`, cut off below at zero. -/
def sqDist (g : Fin 768 → EReal) (W : Fin 8192 → Fin 768 → EReal) (N : Fin 8192 → EReal) (k : Fin 8192) : EReal :=
  max ((∑ c, g c * g c) + N k - two * ∑ c, g c * W k c) 0

/-- It is not negative. -/
theorem sqDist_nonneg (g : Fin 768 → EReal) (W : Fin 8192 → Fin 768 → EReal) (N : Fin 8192 → EReal) (k : Fin 8192) :
    0 ≤ sqDist g W N k := le_max_right _ _

variable (X : FVec Ideal SX .f32) (P : FVec Ideal SP .f32)

/-- The mean of channel `c` of map `b`. -/
def feat (b : Fin 256) (c : Fin 768) : EReal :=
  (∑ s : Fin 256, X (ix4 b c ⟨s.val / 16, by omega⟩ ⟨s.val % 16, by omega⟩)) * scale

/-- The distances of map `b`'s mean to the prototypes. -/
def dists (b : Fin 256) : Fin 8192 → EReal :=
  sqDist (feat X b) (fun k c => P (ix2 k c)) (fun k => ∑ c, P (ix2 k c) * P (ix2 k c))

/-- The first prototype at the least distance from map `b`'s mean. -/
def near (b : Fin 256) : Fin 8192 := (exists_firstMin (by norm_num) (dists X P b)).choose

theorem near_firstMin (b : Fin 256) : IsFirstMin (dists X P b) (near X P b) :=
  (exists_firstMin (by norm_num) (dists X P b)).choose_spec

/-- What is added to every element of channel `c` of map `b`. -/
def shift (b : Fin 256) (c : Fin 768) : EReal := half * (P (ix2 (near X P b) c) - feat X b c)

/-- The result. -/
def out : FVec Ideal SX .f32 := fun i => X i + shift X P (i 0) (i 1)

end Cert.Nearest

end

end
-- ==== Proof.Block.lean ====
/-
  What one block of the kernel computes: the body's stored payload over a block of eight maps (laid out position by
  position, channels last) and the prototypes in two halves, read at one element. The mean is the block's sum over
  positions scaled; the two halves' distances are `Nearest.sqDist` of the mean; the index the body finds is that of the
  first least distance (`Nearest.word_firstMin`); its one-hot product with the prototypes is that prototype's row
  (`Nearest.oneHot_sum`).
-/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.Block

open Cert.KernelIdeal Cert.KernelIdeal.Gen Cert.Nearest

/-- The first half's distances. -/
theorem dist_lo (X : FVec Ideal S8x256x768 .f32) (A : FVec Ideal S4096x768 .bf16) (P : FVec Ideal S1x4096 .f32)
    (W : Fin 8192 → Fin 768 → EReal) (N : Fin 8192 → EReal)
    (hA : ∀ (k : Fin 4096) (c : Fin 768), A (ix2 k c) = W ⟨k.val, by omega⟩ c)
    (hP : ∀ k : Fin 4096, P (ix2 0 k) = N ⟨k.val, by omega⟩) (b : Fin 8) (k : Fin 4096) :
    k0_pay7 (F := Ideal) X A P (ix2 b k)
      = sqDist (fun c => (∑ l, X (ix3 b l c)) * scale) W N ⟨k.val, by omega⟩ := by
  pointwise [k0_pay7, k0_pay3, k0_pay4, k0_pay5, k0_pay2]
  unfold sqDist
  simp only [← hA, ← hP]

/-- The second half's, cut off at zero as the body does. -/
theorem dist_hi (X : FVec Ideal S8x256x768 .f32) (B : FVec Ideal S4096x768 .bf16) (Q : FVec Ideal S1x4096 .f32)
    (W : Fin 8192 → Fin 768 → EReal) (N : Fin 8192 → EReal)
    (hB : ∀ (k : Fin 4096) (c : Fin 768), B (ix2 k c) = W ⟨4096 + k.val, by omega⟩ c)
    (hQ : ∀ k : Fin 4096, Q (ix2 0 k) = N ⟨4096 + k.val, by omega⟩) (b : Fin 8) (k : Fin 4096) :
    max (k0_pay9 (F := Ideal) X B Q (ix2 b k)) (0 : EReal)
      = sqDist (fun c => (∑ l, X (ix3 b l c)) * scale) W N ⟨4096 + k.val, by omega⟩ := by
  pointwise [k0_pay9, k0_pay3, k0_pay4, k0_pay5, k0_pay2]
  unfold sqDist
  simp only [← hB, ← hQ]

/-- The tail of the body over any distances `u`, `v` of the two halves: half the difference of the row at the first
    least distance and the mean. -/
theorem tail (g : FVec Ideal S8x768 .f32) (u v : FVec Ideal S8x4096 .f32) (A B : FVec Ideal S4096x768 .bf16)
    (W : Fin 8192 → Fin 768 → EReal)
    (hA : ∀ (k : Fin 4096) (c : Fin 768), A (ix2 k c) = W ⟨k.val, by omega⟩ c)
    (hB : ∀ (k : Fin 4096) (c : Fin 768), B (ix2 k c) = W ⟨4096 + k.val, by omega⟩ c)
    (f : Fin 8192 → EReal) (b : Fin 8)
    (hu : ∀ k : Fin 4096, u (ix2 b k) = f ⟨k.val, by omega⟩)
    (hv : ∀ k : Fin 4096, max (v (ix2 b k)) (0 : EReal) = f ⟨4096 + k.val, by omega⟩)
    (i : Fin 8192) (hi : IsFirstMin f i) (l : Fin 256) (c : Fin 768) :
    k0_pay10 (F := Ideal) g k0_pay6 u k0_pay8 v (Scalar.ofBits .f32 0#32) A B (ix3 b l c)
      = half * (W i c - g (ix2 b c)) := by
  pointwise [k0_pay10, k0_pay6, k0_pay8]
  rw [word_firstMin f (fun k => u (ix2 b k)) (fun k => max (v (ix2 b k)) 0) hu hv i hi,
    oneHot_sum (fun k => W k c) (fun k => A (ix2 k c)) (fun k => B (ix2 k c)) (fun k => hA k c) (fun k => hB k c) i]

/-- The body's payload at one element of the block. -/
theorem payload (X : FVec Ideal S8x256x768 .f32) (A B : FVec Ideal S4096x768 .bf16) (P Q : FVec Ideal S1x4096 .f32)
    (W : Fin 8192 → Fin 768 → EReal) (N : Fin 8192 → EReal)
    (hA : ∀ (k : Fin 4096) (c : Fin 768), A (ix2 k c) = W ⟨k.val, by omega⟩ c)
    (hB : ∀ (k : Fin 4096) (c : Fin 768), B (ix2 k c) = W ⟨4096 + k.val, by omega⟩ c)
    (hP : ∀ k : Fin 4096, P (ix2 0 k) = N ⟨k.val, by omega⟩)
    (hQ : ∀ k : Fin 4096, Q (ix2 0 k) = N ⟨4096 + k.val, by omega⟩)
    (b : Fin 8) (l : Fin 256) (c : Fin 768) (i : Fin 8192)
    (hi : IsFirstMin (sqDist (fun c => (∑ l, X (ix3 b l c)) * scale) W N) i) :
    k0_pay1 (F := Ideal) (k0_pay2 X) (k0_pay10 (k0_pay3 X) k0_pay6 (k0_pay7 X A P) k0_pay8 (k0_pay9 X B Q)
        (Scalar.ofBits .f32 0#32) A B) (ix3 b l c)
      = X (ix3 b l c) + half * (W i c - (∑ l, X (ix3 b l c)) * scale) := by
  have h := tail (k0_pay3 X) (k0_pay7 X A P) (k0_pay9 X B Q) A B W hA hB _ b (dist_lo X A P W N hA hP b)
    (dist_hi X B Q W N hB hQ b) i hi l c
  have e2 : k0_pay2 (F := Ideal) X (ix3 b l c) = X (ix3 b l c) := by pointwise [k0_pay2]
  have e3 : k0_pay3 (F := Ideal) X (ix2 b c) = (∑ l, X (ix3 b l c)) * scale := by pointwise [k0_pay3, k0_pay2]
  rw [e3] at h
  exact Ideal.add_congr e2 h

end Cert.KernelIdeal.Block

end

end
-- ==== Proof.Array.lean ====
/-
  What the kernel's result array holds after the run: block `t` is the body's payload over maps `8 t` to `8 t + 7`
  (`Block.payload`), the blocks tile the array, and so the array is the specified result laid out position by position
  (`final`). The operations before the kernel lay the feature maps out that way and compute the prototypes' squared
  lengths; those after it undo the layout (`Result.lean`).
-/
module

public import proofs.«01_k».proof.Proof.Block
public import proofs.«01_k».proof.Proof.Gen.KernelIdeal.Frame
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.Nearest

variable (m : (ℓ : Loc nD τ sig) → Buf (Elt Ideal) ℓ)

/-- The two argument arrays of device `c`. -/
abbrev argX (c : Dev nD) : FVec Ideal SX .f32 := m ((c : Thread nD τ).loc main_arg0)
abbrev argP (c : Dev nD) : FVec Ideal SP .f32 := m ((c : Thread nD τ).loc main_arg1)

/-- The windows' block indices: point `t` reads and writes block `t` of the maps and all of the prototypes. -/
theorem idx : ∀ t : Fin cfg0.N, win0_0.index t = ![t.val, 0, 0] ∧ win0_1.index t = ![0, 0] ∧ win0_2.index t = ![0, 0]
    ∧ win0_3.index t = ![t.val, 0, 0] :=
  (by decide +kernel : ∀ t : Fin grid0.N, _)

/-- The specified result laid out position by position: maps, then the grid's positions in order, then channels. -/
def G (X : FVec Ideal SX .f32) (P : FVec Ideal SP .f32) : FVec Ideal S256x256x768 .f32 := fun i =>
  X (ix4 (i 0) (i 2) ⟨(i 1).val / 16, by have := (i 1).isLt; show (i 1).val / 16 < 16; have h : (i 1).val < 256 := this; omega⟩
    ⟨(i 1).val % 16, Nat.mod_lt _ (by norm_num)⟩) + shift X P (i 0) (i 2)

/-- The maps as the kernel is given them. -/
theorem V_v1 (c : Dev nD) (b : Fin 256) (l : Fin 256) (k : Fin 768) :
    (V m c main_v1 : FVec Ideal S256x256x768 .f32) (ix3 b l k) = argX m c (ix4 b k ⟨l.val / 16, by omega⟩ ⟨l.val % 16, by omega⟩) := by
  unfold V V0
  after_reads_at

/-- The prototypes as the kernel is given them. -/
theorem V_v2 (c : Dev nD) (k : Fin 8192) (d : Fin 768) :
    (V m c main_v2 : FVec Ideal S8192x768 .bf16) (ix2 k d) = argP m c (ix2 k d) := by
  unfold V V0
  after_reads_at

/-- The prototypes' squared lengths as the kernel is given them. -/
theorem V_v5 (c : Dev nD) (k : Fin 8192) :
    (V m c main_v5 : FVec Ideal S1x8192 .f32) (ix2 0 k) = ∑ d, argP m c (ix2 k d) * argP m c (ix2 k d) := by
  unfold V V0
  after_reads_at

/-- A block of the maps at an element. -/
theorem blk0 (c : Dev nD) (t : Fin cfg0.N) (ht : t.val < 32) (b : Fin 8) (l : Fin 256) (k : Fin 768) :
    (iblk m c 0 t : FVec Ideal S8x256x768 .f32) (ix3 b l k)
      = argX m c (ix4 ⟨t.val * 8 + b.val, by omega⟩ k ⟨l.val / 16, by omega⟩ ⟨l.val % 16, by omega⟩) := by
  rw [← V_v1 m c ⟨t.val * 8 + b.val, by omega⟩ l k]
  blk_ext [iblk, idx t]

/-- The staged prototypes at an element. -/
theorem blk1 (c : Dev nD) (t : Fin cfg0.N) (k : Fin 8192) (d : Fin 768) :
    (iblk m c 1 t : FVec Ideal S8192x768 .bf16) (ix2 k d) = argP m c (ix2 k d) := by
  rw [← V_v2 m c k d]
  blk_ext [iblk, idx t]

/-- The staged squared lengths at an element. -/
theorem blk2 (c : Dev nD) (t : Fin cfg0.N) (k : Fin 8192) :
    (iblk m c 2 t : FVec Ideal S1x8192 .f32) (ix2 0 k) = ∑ d, argP m c (ix2 k d) * argP m c (ix2 k d) := by
  rw [← V_v5 m c k]
  blk_ext [iblk, idx t]

/-- The means of a block's maps are those of the maps it holds. -/
theorem feat_blk (X : FVec Ideal SX .f32) (B : FVec Ideal S8x256x768 .f32) (b : Fin 8) (r : Fin 256)
    (h : ∀ (l : Fin 256) (d : Fin 768), B (ix3 b l d) = X (ix4 r d ⟨l.val / 16, by omega⟩ ⟨l.val % 16, by omega⟩)) :
    (fun d => (∑ l, B (ix3 b l d)) * scale) = feat X r := by
  funext d
  unfold feat
  simp only [h]

/-- The result array after the run. -/
theorem final (c : Dev nD) : (dats m 0 c).arrAt 3 (cfgs 0).N = G (argX m c) (argP m c) := by
  refine (dats m 0 c).arrAt_eq_of_covers 3 _ (by decide +kernel) fun t _ y => ?_
  have ht : t.val < 32 := lt_of_lt_of_eq t.isLt N_0
  blk_simp
  rw [after0_3]
  frame_out
  idx_vars y
  have hb : t.val * 8 + y0.val < 256 := by omega
  have e : ((View.whole main_v6).slice (win0_3.rect t)).emb (ix3 y0 y1 y2)
      = (ix3 (⟨t.val * 8 + y0.val, hb⟩ : Fin 256) y1 y2 : S256x256x768.Idx) := by
    blk_ext [idx t]
  have hg := feat_blk (argX m c) (iblk m c 0 t) y0 ⟨t.val * 8 + y0.val, hb⟩ fun l d => blk0 m c t ht y0 l d
  rw [e]
  refine (Block.payload (iblk m c 0 t) _ _ _ _ (fun k d => argP m c (ix2 k d))
    (fun k => ∑ d, argP m c (ix2 k d) * argP m c (ix2 k d)) ?_ ?_ ?_ ?_ y0 y1 y2
    (near (argX m c) (argP m c) ⟨t.val * 8 + y0.val, hb⟩) ?_).trans ?_
  · intro k d
    refine Eq.trans ?_ (blk1 m c t ⟨k.val, by omega⟩ d)
    pointwise [r0_1]
  · intro k d
    refine Eq.trans ?_ (blk1 m c t ⟨4096 + k.val, by omega⟩ d)
    pointwise [r0_3]
  · intro k
    refine Eq.trans ?_ (blk2 m c t ⟨k.val, by omega⟩)
    pointwise [r0_2]
  · intro k
    refine Eq.trans ?_ (blk2 m c t ⟨4096 + k.val, by omega⟩)
    pointwise [r0_4]
  · exact hg ▸ near_firstMin (argX m c) (argP m c) ⟨t.val * 8 + y0.val, hb⟩
  · have h0 := blk0 m c t ht y0 y1 y2
    have h1 := congrFun hg y2
    refine Ideal.add_congr h0 ?_
    exact congrArg (fun z => half * (argP m c (ix2 (near (argX m c) (argP m c) ⟨t.val * 8 + y0.val, hb⟩) y2) - z)) h1

end Cert.KernelIdeal.Array

end

end
-- ==== Proof.Result.lean ====
/-
  The kernel program's result: the operations after the kernel lay its result array out as the maps were given, so the
  result buffer ends holding the specified result.
-/
module

public import proofs.«01_k».proof.Proof.Array

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.Nearest

variable (m : (ℓ : Loc nD τ sig) → Buf (Elt Ideal) ℓ)

/-- The layout undone: the position-by-position result read as maps is the specified result. -/
theorem layout (X : FVec Ideal SX .f32) (P : FVec Ideal SP .f32) (i : SX.Idx) :
    transpose S256x768x16x16 [0, 3, 1, 2] (shapeCast S256x16x16x768 (G X P) Facts₀.shapeCasts_S256x256x768_S256x16x16x768)
      Facts₀.transposes_S256x16x16x768_S256x768x16x16_0_3_1_2 i = out X P i := by
  idx_vars i
  pointwise [G, out]
  have e1 : (⟨(i2.val * 16 + i3.val) / 16, by omega⟩ : Fin 16) = i2 := Fin.ext (by show (i2.val * 16 + i3.val) / 16 = i2.val; omega)
  have e2 : (⟨(i2.val * 16 + i3.val) % 16, by omega⟩ : Fin 16) = i3 := Fin.ext (by show (i2.val * 16 + i3.val) % 16 = i3.val; omega)
  rw [e1, e2]

/-- The result buffer after the run. -/
theorem result (c : Dev nD) :
    Pipeline.afterTail₀ cfgs (dats m) 0 (V0 m) [hostOps1] c main_v8 = out (argX m c) (argP m c) := by
  have h6 : Pipeline.withArrays (cfgs 0).spec c (V0 m c) (fun w => (dats m 0 c).arrAt w (cfgs 0).N)
      (Proc.devRef .tc main_v6) = G (argX m c) (argP m c) :=
    (Pipeline.withArrays_arr (cfgs 0).spec (by decide) c (V0 m c) (fun w => (dats m 0 c).arrAt w (cfgs 0).N) 3).trans (final m c)
  unfold Pipeline.afterTail₀
  funext i
  refine Eq.trans ?_ (layout (argX m c) (argP m c) i)
  rw [← h6]
  generalize Pipeline.withArrays (cfgs 0).spec c (V0 m c) (fun w => (dats m 0 c).arrAt w (cfgs 0).N) = V
  simp only [List.flatten_cons, List.flatten_nil, List.append_nil]
  unfold hostOps1
  after_results
  rfl

end Cert.KernelIdeal.Array

end

end
-- ==== Proof.Reference.lean ====
/-
  What the reference computes, stage by stage as functions of the two argument arrays (`mean`, `root`, `index`,
  `rows`, `res`), each read at an element: the mean is `Nearest.feat` (dividing by 256 is scaling by 1/256), the root
  is the square root of `Nearest.dists`, the index is that of the first least distance (`Nearest.fold_firstMin`,
  `Nearest.IsFirstMin.of_sqrt`), the rows are the prototypes' at that index, which lies inside the table, and the
  result is the specified one (`res_eq`).
-/
module

public import proofs.«01_k».proof.Proof.Gen.ReferenceIdeal
public import proofs.«01_k».proof.Proof.Spec

@[expose] public section

set_option maxRecDepth 16384

noncomputable section

open Idealize.ShloMosaic Idealize.ShloMosaic.TcCoe Idealize.SL.Sem

namespace Cert.ReferenceIdeal.Stage

open Cert.ReferenceIdeal Cert.Nearest
open Cert.ReferenceIdeal.Facts₀

/-- The means of the maps over the grid. -/
def mean (X : FVec Ideal S256x768x16x16 .f32) : FVec Ideal S256x768 .f32 :=
  Host.divf (Host.reduceAdd (shapeCast S256x768x256 X shapeCasts_S256x768x16x16_S256x768x256) (constant S_ .f32 0x00000000#32)
    reducesTo_S256x768x256_S256x768_d2 h_S_) (broadcastInDim S256x768 ![] bcast_S_S256x768 (constant S_ .f32 0x43800000#32))

/-- The distances of the means to the prototypes. -/
def root (M : FVec Ideal S256x768 .f32) (P : FVec Ideal S8192x768 .f32) : FVec Ideal S256x8192 .f32 :=
  Host.sqrt (maximumf
    (subf
      (addf
        (broadcastInDim S256x8192 ![0, 1] bcast_S256x1_S256x8192_0_1 (broadcastInDim S256x1 ![0] bcast_S256_S256x1_0
          (Host.reduceAdd (mulf M M) (constant S_ .f32 0x00000000#32) reducesTo_S256x768_S256_d1 h_S_)))
        (broadcastInDim S256x8192 ![0, 1] bcast_S1x8192_S256x8192_0_1 (broadcastInDim S1x8192 ![1] bcast_S8192_S1x8192_1
          (Host.reduceAdd (mulf P P) (constant S_ .f32 0x00000000#32) reducesTo_S8192x768_S8192_d1 h_S_))))
      (mulf (broadcastInDim S256x8192 ![] bcast_S_S256x8192 (constant S_ .f32 0x40000000#32))
        (Host.dotGeneral dot_S256x768_S768x8192_S256x8192_1_0_0_1_n_n none M
          (transpose S768x8192 [1, 0] P transposes_S8192x768_S768x8192_1_0))))
    (broadcastInDim S256x8192 ![] bcast_S_S256x8192 (constant S_ .f32 0x00000000#32)))

/-- The index of the least distance of each map. -/
def index (D : FVec Ideal S256x8192 .f32) : IVec S256 32 := fun j =>
  (Host.argReduce reducer_argmin_f32_i32 D (iotaInDim S256x8192 32 1) (constant S_ .f32 0x7F800000#32) (constantI S_ 32 0#32)
    reducesTo_S256x8192_S256_d1 h_S_ j).2

/-- The index as a start index: a negative one counted from the end. -/
def start (I : IVec S256 32) : IVec S256x1 32 :=
  broadcastInDim S256x1 ![0] bcast_S256_S256x1_0
    (select (cmpi .slt I (broadcastInDim S256 ![] bcast_S_S256 (constantI S_ 32 0#32)))
      (addi I (broadcastInDim S256 ![] bcast_S_S256 (constantI S_ 32 8192#32))) I)

/-- The prototypes' rows at the start indices, a fill value where one is outside the table. -/
def rows (P : FVec Ideal S8192x768 .f32) (J : IVec S256x1 32) : FVec Ideal S256x768 .f32 :=
  select
    (broadcastInDim S256x768 ![0] bcast_S256_S256x768_0
      (Host.reduce IntOp.andi
        (andi (cmpi .sge J (broadcastInDim S256x1 ![] bcast_S_S256x1 (constantI S_ 32 0#32)))
          (cmpi .sle J (broadcastInDim S256x1 ![0, 1] bcast_S1x1_S256x1_0_1
            (broadcastInDim S1x1 ![1] bcast_S1_S1x1_1 (constantI S1 32 8191#32)))))
        (constantI S_ 1 1#1) reducesTo_S256x1_S256_d1 h_S_))
    (Host.gather gather_S8192x768_S256x1_S256x768_1_0_n_n_0_1_1768 P J)
    (broadcastInDim S256x768 ![] bcast_S_S256x768 (constant S_ .f32 0x7FC00000#32))

/-- The maps moved by half the difference of the rows `R` and the means `M`. -/
def moved (X : FVec Ideal S256x768x16x16 .f32) (R M : FVec Ideal S256x768 .f32) : FVec Ideal S256x768x16x16 .f32 :=
  addf X (broadcastInDim S256x768x16x16 ![0, 1, 2, 3] bcast_S256x768x1x1_S256x768x16x16_0_1_2_3
    (broadcastInDim S256x768x1x1 ![0, 1] bcast_S256x768_S256x768x1x1_0_1
      (mulf (broadcastInDim S256x768 ![] bcast_S_S256x768 (constant S_ .f32 0x3F000000#32)) (subf R M))))

/-- The reference's result. -/
def res (X : FVec Ideal S256x768x16x16 .f32) (P : FVec Ideal S8192x768 .f32) : FVec Ideal S256x768x16x16 .f32 :=
  moved X (rows P (start (index (root (mean X) P)))) (mean X)

/-! ## Read at an element -/

/-- Dividing by 256 is scaling by 1/256. -/
theorem div_256 (x : EReal) : Ideal.div x (Ideal.ofBits .f32 0x43800000#32) = x * scale := by
  have h1 : Ideal.ofBits .f32 0x43800000#32 = ((256 : ℝ) : EReal) := by
    simp only [Ideal.ofBits, Ideal.ieee]; simp; rw [← EReal.coe_mul]; norm_num
  have h2 : scale = ((1 / 256 : ℝ) : EReal) := by
    simp only [scale, Ideal.ofBits, Ideal.ieee]; simp; rw [← EReal.coe_mul]; norm_num
  rw [h1, h2]
  exact Ideal.div_coe (by norm_num) x

/-- The means are the specified ones. -/
theorem mean_apply (X : FVec Ideal SX .f32) (b : Fin 256) (c : Fin 768) : mean X (ix2 b c) = feat X b c := by
  pointwise [mean]
  rw [div_256]
  rfl

/-- The distances are the roots of the specified ones. -/
theorem root_apply (X : FVec Ideal SX .f32) (P : FVec Ideal SP .f32) (b : Fin 256) (k : Fin 8192) :
    root (mean X) P (ix2 b k) = Ideal.sqrt (dists X P b k) := by
  pointwise [root]
  simp only [mean_apply]
  rfl

/-- The reducer over ideal values. -/
abbrev least : EReal × BitVec 32 → EReal × BitVec 32 → EReal × BitVec 32 := reducer_argmin_f32_i32 (F := Ideal)

/-- The reducer keeps one of its two pairs, one that is below both in the order of `PairLe`. -/
theorem reducer_least (p q : EReal × BitVec 32) :
    (least p q = p ∨ least p q = q) ∧ PairLe (least p q) p ∧ PairLe (least p q) q := by
  obtain ⟨x, a⟩ := p
  obtain ⟨y, b⟩ := q
  have e : least (x, a) (y, b) = if x < y then (x, a) else if x = y ∧ a.slt b = true then (y, a) else (y, b) := by
    unfold least reducer_argmin_f32_i32
    simp [FloatOps.cmpf, Ideal.cmp, cmpf, IntOp.cmpi, cmpi, ori, andi, IntOp.ori, IntOp.andi, Scalar.select]
    by_cases h₁ : x < y
    · simp [h₁]
    · by_cases h₂ : x = y
      · subst h₂
        cases h₃ : a.slt b <;> simp
      · simp [h₁, h₂]
  rw [e]
  by_cases h₁ : x < y
  · simp only [if_pos h₁]
    exact ⟨.inl trivial, .refl _, .inl h₁⟩
  · by_cases h₂ : x = y
    · subst h₂
      by_cases h₃ : a.slt b = true
      · have h₄ : a.toInt < b.toInt := by rwa [BitVec.slt_eq_decide, decide_eq_true_eq] at h₃
        simp only [lt_self_iff_false, if_false, h₃, and_self, if_true]
        exact ⟨.inl trivial, .refl _, .inr ⟨rfl, h₄.le⟩⟩
      · have h₄ : b.toInt ≤ a.toInt := by
          rw [BitVec.slt_eq_decide, decide_eq_true_eq] at h₃
          omega
        simp only [lt_self_iff_false, if_false, h₃, and_false, reduceCtorEq]
        exact ⟨.inr trivial, .inr ⟨rfl, h₄⟩, .refl _⟩
    · simp only [if_neg h₁, h₂, false_and, if_false]
      exact ⟨.inr trivial, .inl (lt_of_le_of_ne (not_lt.mp h₁) (Ne.symm h₂)), .refl _⟩

/-- The pairs of the arg-min's row `b` are the distances of map `b`, each with its index. -/
theorem mem_fiber (D : FVec Ideal S256x8192 .f32) (b : Fin 256) (p : EReal × BitVec 32) :
    p ∈ Host.argReduceFiber D (iotaInDim S256x8192 32 1) reducesTo_S256x8192_S256_d1 (ix1 b) ↔
      ∃ k : Fin 8192, p = (D (ix2 b k), BitVec.ofNat 32 k.val) := by
  simp only [Host.argReduceFiber, List.mem_map, List.mem_filter, List.mem_finRange, true_and, decide_eq_true_eq,
    Shape.ReducesTo.fiber_r2_a1]
  constructor
  · rintro ⟨n, ⟨k, hk⟩, rfl⟩
    refine ⟨k, ?_⟩
    rw [← hk]
    rfl
  · rintro ⟨k, rfl⟩
    refine ⟨S256x8192.rowMajor (ix2 b k), ⟨k, ?_⟩, ?_⟩
    · rw [Equiv.symm_apply_apply]; rfl
    · rw [Equiv.symm_apply_apply]; rfl

/-- The arg-min's index is the one the reducer leaves, folded over the pairs from the initial pair. -/
theorem argmin_eq (D : FVec Ideal S256x8192 .f32) (y : IVec S256x8192 32) (b : Fin 256) (z : FVec Ideal S_ .f32)
    (w : IVec S_ 32) :
    (Host.argReduce reducer_argmin_f32_i32 D y z w reducesTo_S256x8192_S256_d1 h_S_ (ix1 b)).2 =
      ((Host.argReduceFiber D y reducesTo_S256x8192_S256_d1 (ix1 b)).foldl least
        (z (Shape.Idx.first h_S_), w (Shape.Idx.first h_S_))).2 :=
  congrArg Prod.snd ((congrFun (Ideal.argReduce_eq_reduce2 _ _ _ _ _ _ _) _).trans
    (Host.reduce2_eq_foldl_fiber _ _ _ _ _ _ _ _))

/-- The initial distance is infinity. -/
theorem init_dist : (constant S_ .f32 0x7F800000#32 : FVec Ideal S_ .f32) (Shape.Idx.first h_S_) = (⊤ : EReal) := ofBits_inf

/-- The initial index is 0. -/
theorem init_index : (constantI S_ 32 0#32) (Shape.Idx.first h_S_) = 0#32 := rfl

/-- The indices as a function of the map. -/
theorem index_fun (D : FVec Ideal S256x8192 .f32) : index D = fun j =>
    (Host.argReduce reducer_argmin_f32_i32 D (iotaInDim S256x8192 32 1) (constant S_ .f32 0x7F800000#32)
      (constantI S_ 32 0#32) reducesTo_S256x8192_S256_d1 h_S_ j).2 := rfl

/-- The index of map `b` is the one the reducer leaves. -/
theorem index_eq (D : FVec Ideal S256x8192 .f32) (b : Fin 256) : index D (ix1 b) =
    ((Host.argReduceFiber D (iotaInDim S256x8192 32 1) reducesTo_S256x8192_S256_d1 (ix1 b)).foldl least
      ((constant S_ .f32 0x7F800000#32 : FVec Ideal S_ .f32) (Shape.Idx.first h_S_),
        (constantI S_ 32 0#32) (Shape.Idx.first h_S_))).2 :=
  (congrFun (index_fun D) (ix1 b)).trans (argmin_eq D _ b _ _)

/-- The index of a row whose entries are `f`, the first least of them `f i`, is `i`. -/
theorem index_firstMin (D : FVec Ideal S256x8192 .f32) (b : Fin 256) (f : Fin 8192 → EReal) (hf : ∀ k, D (ix2 b k) = f k)
    (i : Fin 8192) (hi : IsFirstMin f i) : index D (ix1 b) = BitVec.ofNat 32 i.val := by
  rw [index_eq]
  have hL := mem_fiber D b
  simp only [hf] at hL
  generalize Host.argReduceFiber D (iotaInDim S256x8192 32 1) reducesTo_S256x8192_S256_d1 (ix1 b) = L at hL ⊢
  rw [init_dist, init_index]
  exact fold_firstMin least reducer_least f L hL i hi

/-- The index is that of the first least distance. -/
theorem index_apply (X : FVec Ideal SX .f32) (P : FVec Ideal SP .f32) (b : Fin 256) :
    index (root (mean X) P) (ix1 b) = BitVec.ofNat 32 (near X P b).val := by
  obtain ⟨i, hi⟩ := exists_firstMin (n := 8192) (by norm_num) fun k => Ideal.sqrt (dists X P b k)
  have e : i = near X P b :=
    IsFirstMin.unique (IsFirstMin.of_sqrt (fun k => sqDist_nonneg _ _ _ k) hi) (near_firstMin X P b)
  rw [← e]
  exact index_firstMin _ b _ (root_apply X P b) i hi

/-- An index inside the table is its own start index. -/
theorem start_apply (I : IVec S256 32) (b : Fin 256) (n : Fin 8192) (h : I (ix1 b) = BitVec.ofNat 32 n.val) :
    start I (ix2 b 0) = BitVec.ofNat 32 n.val := by
  pointwise [start]
  have e : IntOp.cmpi .slt (BitVec.ofNat 32 n.val) 0#32 = 0#1 := by
    have z : (0#32 : BitVec 32).toInt = 0 := rfl
    rw [IntOp.cmpi, BitVec.slt_eq_decide, toInt_ofNat (by omega), z, decide_eq_false (by omega)]
    rfl
  rw [h, e]
  rfl

/-- The gather reads row `n` where the start index is `n`, inside the table. -/
theorem gather_apply (P : FVec Ideal SP .f32) (J : IVec S256x1 32) (b : Fin 256) (c : Fin 768) (n : Fin 8192)
    (h : J (ix2 b 0) = BitVec.ofNat 32 n.val) :
    Host.gather gather_S8192x768_S256x1_S256x768_1_0_n_n_0_1_1768 P J (ix2 b c) = P (ix2 n c) := by
  have hj : gather_S8192x768_S256x1_S256x768_1_0_n_n_0_1_1768.siIdx (ix2 b c) ⟨0, by decide⟩ = ix2 b 0 := by
    funext a
    match a with
    | ⟨0, _⟩ => rfl
    | ⟨1, _⟩ => rfl
  show P _ = _
  congr 1
  funext a
  apply Fin.ext
  match a with
  | ⟨0, _⟩ =>
    show min (J (gather_S8192x768_S256x1_S256x768_1_0_n_n_0_1_1768.siIdx (ix2 b c) ⟨0, by decide⟩)).toInt.toNat (8192 - 1) + 0 + 0 = n.val
    rw [hj, h, toInt_ofNat (by omega)]
    simp
    omega
  | ⟨1, _⟩ =>
    show 0 + 0 + c.val = c.val
    omega

/-- The row is the prototype's where the start index is inside the table. -/
theorem rows_apply (P : FVec Ideal SP .f32) (J : IVec S256x1 32) (b : Fin 256) (c : Fin 768) (n : Fin 8192)
    (h : J (ix2 b 0) = BitVec.ofNat 32 n.val) : rows P J (ix2 b c) = P (ix2 n c) := by
  pointwise [rows]
  rw [gather_apply P J b c n h]
  simp only [Finset.univ_unique, Fin.default_eq_zero, Fin.isValue, Finset.fold_singleton]
  have e₀ : IntOp.cmpi .sge (BitVec.ofNat 32 n.val) 0#32 = 1#1 := by
    have z : (0#32 : BitVec 32).toInt = 0 := rfl
    have en := toInt_ofNat (n := n.val) (by omega)
    rw [IntOp.cmpi, BitVec.sle_eq_decide, z, en, decide_eq_true (by omega)]
    rfl
  have e₁ : IntOp.cmpi .sle (BitVec.ofNat 32 n.val) 8191#32 = 1#1 := by
    rw [IntOp.cmpi, BitVec.sle_eq_decide, toInt_ofNat (by omega), show (8191#32 : BitVec 32).toInt = 8191 from rfl,
      decide_eq_true (by omega)]
    rfl
  rw [h, e₀, e₁]
  rfl

/-- The reference's result is the specified one. -/
theorem res_eq (X : FVec Ideal SX .f32) (P : FVec Ideal SP .f32) : res X P = out X P := by
  funext i
  pointwise [res, moved]
  exact congrArg (fun z : EReal => X i + z) (congrArg (fun z : EReal => half * z) (congrArg₂ (fun x y : EReal => x - y)
    (rows_apply P _ (i 0) (i 1) (near X P (i 0)) (start_apply _ _ _ (index_apply X P (i 0)))) (mean_apply X (i 0) (i 1))))

end Cert.ReferenceIdeal.Stage

end

end
-- ==== Proof.Equation.lean ====
/-
  The claims that run a program: the reference's run leaves its composed value, `Stage.res`, in the result buffer; the
  kernel's leaves the specified result (`Array.result`); the two are equal (`Stage.res_eq`).
-/
module

public import proofs.«01_k».proof.Defs
public import proofs.«01_k».proof.Proof.Result
public import proofs.«01_k».proof.Proof.Reference
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 1600000 in
/-- The reference's run: the result buffer ends at `Stage.res` of the arguments, which end unchanged. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v28) =
          Cert.ReferenceIdeal.Stage.res (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) =
          m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) =
          m ((c.tc : Thread Cert.ReferenceIdeal.nD Cert.ReferenceIdeal.τ).loc Cert.ReferenceIdeal.main_arg1)) := by
  hlo_run
  simp only [StableHlo.TRef.ofBuf_toBuf]
  rfl

/-- The kernel's run: the result buffer ends at the specified result, the arguments unchanged. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v8) =
          Cert.Nearest.out (Cert.KernelIdeal.Array.argX m c) (Cert.KernelIdeal.Array.argP m c)) :=
  (θ_run Cert.KernelIdeal.defs _ _).mono
    (fun _ h c => ((h c).2 Cert.KernelIdeal.main_v8 (Pipeline.mem_restRefs_of Cert.KernelIdeal.main_v8 (by decide) (by decide))).trans
      (Cert.KernelIdeal.Array.result m c))
    (Cert.KernelIdeal.Gen.run_main m g)

/-- The reference's run leaves its arguments unchanged and its counters at zero. -/
theorem frame_reference : Cert.quiescent_ReferenceIdeal := fun m g _ =>
  (θ_run Cert.ReferenceIdeal.defs _ _).mono (fun r h => ⟨fun c => (h c).2, sem_eq_zero_of_no_sems (by decide) r.2⟩)
    (run_reference m g)

/-- From memories that agree on the arguments, the kernel's result is the reference's. -/
theorem algebraic : Cert.algebraic_KernelIdeal_ReferenceIdeal := fun m g m' g' _ hagree =>
  ⟨fun c => Cert.Nearest.out (Cert.KernelIdeal.Array.argX m c) (Cert.KernelIdeal.Array.argP m c),
    (θ_run Cert.KernelIdeal.defs _ _).mono (fun _ h c => ⟨h.1 c, h.2 c⟩)
      (θ_run_and (run_kernel m g) (Cert.KernelIdeal.Gen.unchanged m g)),
    (θ_run Cert.ReferenceIdeal.defs _ _).mono
      (fun _ h c => ⟨(h c).1.trans ((Cert.ReferenceIdeal.Stage.res_eq _ _).trans
        (congrArg₂ Cert.Nearest.out (hagree c).1 (hagree c).2)), (h c).2⟩)
      (run_reference m' g')⟩

end Cert.Proof

end

end
-- ==== Proof.lean ====
/-
  The proof of `Cert.Claim`: the frames of the kernel, of its idealization and of the reference, the idealization, and
  the equality of the kernel's and the reference's results over ideal values.

    Proof/Nearest.lean     the first least entry of a list, and the three ways the programs find it
    Proof/Spec.lean        what both programs compute
    Proof/Block.lean       what one block of the kernel computes
    Proof/Array.lean       what the kernel's result array holds after the run
    Proof/Result.lean      what the kernel program's result buffer holds after the run
    Proof/Reference.lean   what the reference computes
    Proof/Equation.lean    the two runs, and the equality of their results
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation

@[expose] public section

noncomputable section

namespace Cert.Proof

open Idealize.ShloMosaic Idealize.SL.Sem

/-- Every claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
